-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x192x224x224 : Shape := ⟨4, ![4, 192, 224, 224]⟩
abbrev S4x224x224 : Shape := ⟨3, ![4, 224, 224]⟩
abbrev S192x512x512 : Shape := ⟨3, ![192, 512, 512]⟩
abbrev S1x192x512 : Shape := ⟨3, ![1, 192, 512]⟩
abbrev S4x192x50176 : Shape := ⟨3, ![4, 192, 50176]⟩
abbrev S4x50176 : Shape := ⟨2, ![4, 50176]⟩
abbrev S32x6272 : Shape := ⟨2, ![32, 6272]⟩
abbrev S32x512 : Shape := ⟨2, ![32, 512]⟩
abbrev S32 : Shape := ⟨1, ![32]⟩
abbrev S_ : Shape := ⟨0, ![]⟩
abbrev S32x1 : Shape := ⟨2, ![32, 1]⟩
abbrev S4x4096 : Shape := ⟨2, ![4, 4096]⟩
abbrev S4x512 : Shape := ⟨2, ![4, 512]⟩
abbrev S4x512x1 : Shape := ⟨3, ![4, 512, 1]⟩
abbrev S1 : Shape := ⟨1, ![1]⟩
abbrev S1x1x1 : Shape := ⟨3, ![1, 1, 1]⟩
abbrev S4x1 : Shape := ⟨2, ![4, 1]⟩
abbrev S4 : Shape := ⟨1, ![4]⟩
abbrev S4x1x512 : Shape := ⟨3, ![4, 1, 512]⟩
abbrev S4x192x512 : Shape := ⟨3, ![4, 192, 512]⟩
abbrev S4x192x512x1 : Shape := ⟨4, ![4, 192, 512, 1]⟩
abbrev S1x1x1x1 : Shape := ⟨4, ![1, 1, 1, 1]⟩
abbrev S4x512x512 : Shape := ⟨3, ![4, 512, 512]⟩
abbrev S4x8x512 : Shape := ⟨3, ![4, 8, 512]⟩
abbrev S8x512x512 : Shape := ⟨3, ![8, 512, 512]⟩
abbrev S1x8x512 : Shape := ⟨3, ![1, 8, 512]⟩
abbrev S8x4x512 : Shape := ⟨3, ![8, 4, 512]⟩
abbrev S8x512 : Shape := ⟨2, ![8, 512]⟩
abbrev S8x1x512 : Shape := ⟨3, ![8, 1, 512]⟩

abbrev nBuf : Space → Nat
  | .hbm => 107
  | .vmem => 7
  | .smem => 0
  | _ => 0

abbrev bufTy : (tb : Table) → Fin (tcTables nBuf tb) → BufTy
  | .hbm, ⟨0, _⟩ => ⟨S4x192x224x224, .f32⟩
  | .hbm, ⟨1, _⟩ => ⟨S4x224x224, .f32⟩
  | .hbm, ⟨2, _⟩ => ⟨S192x512x512, .f32⟩
  | .hbm, ⟨3, _⟩ => ⟨S1x192x512, .f32⟩
  | .hbm, ⟨4, _⟩ => ⟨S4x192x50176, .f32⟩
  | .hbm, ⟨5, _⟩ => ⟨S4x50176, .f32⟩
  | .hbm, ⟨6, _⟩ => ⟨S32x6272, .f32⟩
  | .hbm, ⟨7, _⟩ => ⟨S32x512, .f32⟩
  | .hbm, ⟨8, _⟩ => ⟨S32x512, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S_, .i32⟩
  | .hbm, ⟨25, _⟩ => ⟨S_, .i1⟩
  | .hbm, ⟨26, _⟩ => ⟨S32, .i1⟩
  | .hbm, ⟨27, _⟩ => ⟨S32, .i1⟩
  | .hbm, ⟨28, _⟩ => ⟨S32, .i1⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S32x512, .i32⟩
  | .hbm, ⟨37, _⟩ => ⟨S32x512, .i32⟩
  | .hbm, ⟨38, _⟩ => ⟨S4x4096, .i32⟩
  | .hbm, ⟨39, _⟩ => ⟨S4x4096, .f32⟩
  | .hbm, ⟨40, _⟩ => ⟨S4x512, .f32⟩
  | .hbm, ⟨41, _⟩ => ⟨S4x512, .i32⟩
  | .hbm, ⟨42, _⟩ => ⟨S_, .i32⟩
  | .hbm, ⟨43, _⟩ => ⟨S4x512, .i32⟩
  | .hbm, ⟨44, _⟩ => ⟨S4x512, .i1⟩
  | .hbm, ⟨45, _⟩ => ⟨S_, .i32⟩
  | .hbm, ⟨46, _⟩ => ⟨S4x512, .i32⟩
  | .hbm, ⟨47, _⟩ => ⟨S4x512, .i32⟩
  | .hbm, ⟨48, _⟩ => ⟨S4x512, .i32⟩
  | .hbm, ⟨49, _⟩ => ⟨S4x512x1, .i32⟩
  | .hbm, ⟨50, _⟩ => ⟨S1, .i32⟩
  | .hbm, ⟨51, _⟩ => ⟨S_, .i32⟩
  | .hbm, ⟨52, _⟩ => ⟨S4x512x1, .i32⟩
  | .hbm, ⟨53, _⟩ => ⟨S4x512x1, .i1⟩
  | .hbm, ⟨54, _⟩ => ⟨S1x1x1, .i32⟩
  | .hbm, ⟨55, _⟩ => ⟨S4x512x1, .i32⟩
  | .hbm, ⟨56, _⟩ => ⟨S4x512x1, .i1⟩
  | .hbm, ⟨57, _⟩ => ⟨S4x512x1, .i1⟩
  | .hbm, ⟨58, _⟩ => ⟨S_, .i1⟩
  | .hbm, ⟨59, _⟩ => ⟨S4x512, .i1⟩
  | .hbm, ⟨60, _⟩ => ⟨S4x512, .i32⟩
  | .hbm, ⟨61, _⟩ => ⟨S_, .i32⟩
  | .hbm, ⟨62, _⟩ => ⟨S4x512, .i32⟩
  | .hbm, ⟨63, _⟩ => ⟨S4x512, .i32⟩
  | .hbm, ⟨64, _⟩ => ⟨S4x1, .f32⟩
  | .hbm, ⟨65, _⟩ => ⟨S4, .f32⟩
  | .hbm, ⟨66, _⟩ => ⟨S4x1, .f32⟩
  | .hbm, ⟨67, _⟩ => ⟨S4x512, .f32⟩
  | .hbm, ⟨68, _⟩ => ⟨S4x512, .f32⟩
  | .hbm, ⟨69, _⟩ => ⟨S4x512, .f32⟩
  | .hbm, ⟨70, _⟩ => ⟨S_, .f32⟩
  | .hbm, ⟨71, _⟩ => ⟨S4x512, .f32⟩
  | .hbm, ⟨72, _⟩ => ⟨S4x512, .f32⟩
  | .hbm, ⟨73, _⟩ => ⟨S_, .f32⟩
  | .hbm, ⟨74, _⟩ => ⟨S4x512, .f32⟩
  | .hbm, ⟨75, _⟩ => ⟨S4x512, .f32⟩
  | .hbm, ⟨76, _⟩ => ⟨S_, .f32⟩
  | .hbm, ⟨77, _⟩ => ⟨S4x512, .f32⟩
  | .hbm, ⟨78, _⟩ => ⟨S4x512, .f32⟩
  | .hbm, ⟨79, _⟩ => ⟨S4x1x512, .i32⟩
  | .hbm, ⟨80, _⟩ => ⟨S4x192x512, .i32⟩
  | .hbm, ⟨81, _⟩ => ⟨S_, .i32⟩
  | .hbm, ⟨82, _⟩ => ⟨S4x192x512, .i32⟩
  | .hbm, ⟨83, _⟩ => ⟨S4x192x512, .i1⟩
  | .hbm, ⟨84, _⟩ => ⟨S_, .i32⟩
  | .hbm, ⟨85, _⟩ => ⟨S4x192x512, .i32⟩
  | .hbm, ⟨86, _⟩ => ⟨S4x192x512, .i32⟩
  | .hbm, ⟨87, _⟩ => ⟨S4x192x512, .i32⟩
  | .hbm, ⟨88, _⟩ => ⟨S4x192x512x1, .i32⟩
  | .hbm, ⟨89, _⟩ => ⟨S1, .i32⟩
  | .hbm, ⟨90, _⟩ => ⟨S_, .i32⟩
  | .hbm, ⟨91, _⟩ => ⟨S4x192x512x1, .i32⟩
  | .hbm, ⟨92, _⟩ => ⟨S4x192x512x1, .i1⟩
  | .hbm, ⟨93, _⟩ => ⟨S1x1x1x1, .i32⟩
  | .hbm, ⟨94, _⟩ => ⟨S4x192x512x1, .i32⟩
  | .hbm, ⟨95, _⟩ => ⟨S4x192x512x1, .i1⟩
  | .hbm, ⟨96, _⟩ => ⟨S4x192x512x1, .i1⟩
  | .hbm, ⟨97, _⟩ => ⟨S_, .i1⟩
  | .hbm, ⟨98, _⟩ => ⟨S4x192x512, .i1⟩
  | .hbm, ⟨99, _⟩ => ⟨S4x192x512, .f32⟩
  | .hbm, ⟨100, _⟩ => ⟨S_, .f32⟩
  | .hbm, ⟨101, _⟩ => ⟨S4x192x512, .f32⟩
  | .hbm, ⟨102, _⟩ => ⟨S4x192x512, .f32⟩
  | .hbm, ⟨103, _⟩ => ⟨S4x1x512, .f32⟩
  | .hbm, ⟨104, _⟩ => ⟨S4x192x512, .f32⟩
  | .hbm, ⟨105, _⟩ => ⟨S4x192x512, .f32⟩
  | .hbm, ⟨106, _⟩ => ⟨S4x512x512, .f32⟩
  | .local _ .vmem, ⟨0, _⟩ => ⟨S4x8x512, .f32⟩
  | .local _ .vmem, ⟨1, _⟩ => ⟨S4x8x512, .f32⟩
  | .local _ .vmem, ⟨2, _⟩ => ⟨S8x512x512, .f32⟩
  | .local _ .vmem, ⟨3, _⟩ => ⟨S8x512x512, .f32⟩
  | .local _ .vmem, ⟨4, _⟩ => ⟨S1x8x512, .f32⟩
  | .local _ .vmem, ⟨5, _⟩ => ⟨S1x8x512, .f32⟩
  | .local _ .vmem, ⟨6, _⟩ => ⟨S4x512x512, .f32⟩
  | _, _ => ⟨S4x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v4 : Ref sig .tc := ⟨.hbm, 31, rfl⟩
abbrev main_c_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_values_1 : Ref sig .tc := ⟨.hbm, 40, rfl⟩
abbrev main_indices_2 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_c_4 : Ref sig .tc := ⟨.hbm, 61, rfl⟩
abbrev main_call1_v14 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst : Ref sig .tc := ⟨.hbm, 70, rfl⟩
abbrev main_v19 : Ref sig .tc := ⟨.hbm, 71, rfl⟩
abbrev main_v20 : Ref sig .tc := ⟨.hbm, 72, rfl⟩
abbrev main_call2_cst : Ref sig .tc := ⟨.hbm, 73, rfl⟩
abbrev main_call2_v0 : Ref sig .tc := ⟨.hbm, 74, rfl⟩
abbrev main_v21 : Ref sig .tc := ⟨.hbm, 75, rfl⟩
abbrev main_cst_3 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x192x224x224 : Shape := ⟨4, ![4, 192, 224, 224]⟩
abbrev S4x224x224 : Shape := ⟨3, ![4, 224, 224]⟩
abbrev S192x512x512 : Shape := ⟨3, ![192, 512, 512]⟩
abbrev S1x192x512 : Shape := ⟨3, ![1, 192, 512]⟩
abbrev S4x192x50176 : Shape := ⟨3, ![4, 192, 50176]⟩
abbrev S4x50176 : Shape := ⟨2, ![4, 50176]⟩
abbrev S4x512 : Shape := ⟨2, ![4, 512]⟩
abbrev S4x1 : Shape := ⟨2, ![4, 1]⟩
abbrev S4 : Shape := ⟨1, ![4]⟩
abbrev S_ : Shape := ⟨0, ![]⟩
abbrev S4x512x1 : Shape := ⟨3, ![4, 512, 1]⟩
abbrev S1 : Shape := ⟨1, ![1]⟩
abbrev S1x1x1 : Shape := ⟨3, ![1, 1, 1]⟩
abbrev S4x1x512 : Shape := ⟨3, ![4, 1, 512]⟩
abbrev S4x192x512 : Shape := ⟨3, ![4, 192, 512]⟩
abbrev S4x192x512x1 : Shape := ⟨4, ![4, 192, 512, 1]⟩
abbrev S1x1x1x1 : Shape := ⟨4, ![1, 1, 1, 1]⟩
abbrev S192x512x4 : Shape := ⟨3, ![192, 512, 4]⟩
abbrev S4x512x192 : Shape := ⟨3, ![4, 512, 192]⟩
abbrev S4x512x512 : Shape := ⟨3, ![4, 512, 512]⟩

abbrev nBuf : Space → Nat
  | .hbm => 78
  | .vmem => 0
  | .smem => 0
  | _ => 0

abbrev bufTy : (tb : Table) → Fin (tcTables nBuf tb) → BufTy
  | .hbm, ⟨0, _⟩ => ⟨S4x192x224x224, .f32⟩
  | .hbm, ⟨1, _⟩ => ⟨S4x224x224, .f32⟩
  | .hbm, ⟨2, _⟩ => ⟨S192x512x512, .f32⟩
  | .hbm, ⟨3, _⟩ => ⟨S1x192x512, .f32⟩
  | .hbm, ⟨4, _⟩ => ⟨S4x192x50176, .f32⟩
  | .hbm, ⟨5, _⟩ => ⟨S4x50176, .f32⟩
  | .hbm, ⟨6, _⟩ => ⟨S4x512, .f32⟩
  | .hbm, ⟨7, _⟩ => ⟨S4x512, .i32⟩
  | .hbm, ⟨8, _⟩ => ⟨S4x1, .f32⟩
  | .hbm, ⟨9, _⟩ => ⟨S4, .f32⟩
  | .hbm, ⟨10, _⟩ => ⟨S4x1, .f32⟩
  | .hbm, ⟨11, _⟩ => ⟨S4x50176, .f32⟩
  | .hbm, ⟨12, _⟩ => ⟨S4x50176, .f32⟩
  | .hbm, ⟨13, _⟩ => ⟨S4x50176, .f32⟩
  | .hbm, ⟨14, _⟩ => ⟨S_, .f32⟩
  | .hbm, ⟨15, _⟩ => ⟨S4x50176, .f32⟩
  | .hbm, ⟨16, _⟩ => ⟨S4x50176, .f32⟩
  | .hbm, ⟨17, _⟩ => ⟨S_, .f32⟩
  | .hbm, ⟨18, _⟩ => ⟨S4x50176, .f32⟩
  | .hbm, ⟨19, _⟩ => ⟨S4x50176, .f32⟩
  | .hbm, ⟨20, _⟩ => ⟨S_, .f32⟩
  | .hbm, ⟨21, _⟩ => ⟨S4x50176, .f32⟩
  | .hbm, ⟨22, _⟩ => ⟨S4x50176, .f32⟩
  | .hbm, ⟨23, _⟩ => ⟨S_, .i32⟩
  | .hbm, ⟨24, _⟩ => ⟨S4x512, .i32⟩
  | .hbm, ⟨25, _⟩ => ⟨S4x512, .i1⟩
  | .hbm, ⟨26, _⟩ => ⟨S_, .i32⟩
  | .hbm, ⟨27, _⟩ => ⟨S4x512, .i32⟩
  | .hbm, ⟨28, _⟩ => ⟨S4x512, .i32⟩
  | .hbm, ⟨29, _⟩ => ⟨S4x512, .i32⟩
  | .hbm, ⟨30, _⟩ => ⟨S4x512x1, .i32⟩
  | .hbm, ⟨31, _⟩ => ⟨S1, .i32⟩
  | .hbm, ⟨32, _⟩ => ⟨S_, .i32⟩
  | .hbm, ⟨33, _⟩ => ⟨S4x512x1, .i32⟩
  | .hbm, ⟨34, _⟩ => ⟨S4x512x1, .i1⟩
  | .hbm, ⟨35, _⟩ => ⟨S1x1x1, .i32⟩
  | .hbm, ⟨36, _⟩ => ⟨S4x512x1, .i32⟩
  | .hbm, ⟨37, _⟩ => ⟨S4x512x1, .i1⟩
  | .hbm, ⟨38, _⟩ => ⟨S4x512x1, .i1⟩
  | .hbm, ⟨39, _⟩ => ⟨S_, .i1⟩
  | .hbm, ⟨40, _⟩ => ⟨S4x512, .i1⟩
  | .hbm, ⟨41, _⟩ => ⟨S4x512, .f32⟩
  | .hbm, ⟨42, _⟩ => ⟨S_, .f32⟩
  | .hbm, ⟨43, _⟩ => ⟨S4x512, .f32⟩
  | .hbm, ⟨44, _⟩ => ⟨S4x512, .f32⟩
  | .hbm, ⟨45, _⟩ => ⟨S4x1x512, .i32⟩
  | .hbm, ⟨46, _⟩ => ⟨S4x192x512, .i32⟩
  | .hbm, ⟨47, _⟩ => ⟨S_, .i32⟩
  | .hbm, ⟨48, _⟩ => ⟨S4x192x512, .i32⟩
  | .hbm, ⟨49, _⟩ => ⟨S4x192x512, .i1⟩
  | .hbm, ⟨50, _⟩ => ⟨S_, .i32⟩
  | .hbm, ⟨51, _⟩ => ⟨S4x192x512, .i32⟩
  | .hbm, ⟨52, _⟩ => ⟨S4x192x512, .i32⟩
  | .hbm, ⟨53, _⟩ => ⟨S4x192x512, .i32⟩
  | .hbm, ⟨54, _⟩ => ⟨S4x192x512x1, .i32⟩
  | .hbm, ⟨55, _⟩ => ⟨S1, .i32⟩
  | .hbm, ⟨56, _⟩ => ⟨S_, .i32⟩
  | .hbm, ⟨57, _⟩ => ⟨S4x192x512x1, .i32⟩
  | .hbm, ⟨58, _⟩ => ⟨S4x192x512x1, .i1⟩
  | .hbm, ⟨59, _⟩ => ⟨S1x1x1x1, .i32⟩
  | .hbm, ⟨60, _⟩ => ⟨S4x192x512x1, .i32⟩
  | .hbm, ⟨61, _⟩ => ⟨S4x192x512x1, .i1⟩
  | .hbm, ⟨62, _⟩ => ⟨S4x192x512x1, .i1⟩
  | .hbm, ⟨63, _⟩ => ⟨S_, .i1⟩
  | .hbm, ⟨64, _⟩ => ⟨S4x192x512, .i1⟩
  | .hbm, ⟨65, _⟩ => ⟨S4x192x512, .f32⟩
  | .hbm, ⟨66, _⟩ => ⟨S_, .f32⟩
  | .hbm, ⟨67, _⟩ => ⟨S4x192x512, .f32⟩
  | .hbm, ⟨68, _⟩ => ⟨S4x192x512, .f32⟩
  | .hbm, ⟨69, _⟩ => ⟨S4x1x512, .f32⟩
  | .hbm, ⟨70, _⟩ => ⟨S4x192x512, .f32⟩
  | .hbm, ⟨71, _⟩ => ⟨S4x192x512, .f32⟩
  | .hbm, ⟨72, _⟩ => ⟨S192x512x4, .f32⟩
  | .hbm, ⟨73, _⟩ => ⟨S4x192x512, .f32⟩
  | .hbm, ⟨74, _⟩ => ⟨S4x192x512, .f32⟩
  | .hbm, ⟨75, _⟩ => ⟨S4x192x512, .f32⟩
  | .hbm, ⟨76, _⟩ => ⟨S4x512x192, .f32⟩
  | .hbm, ⟨77, _⟩ => ⟨S4x512x512, .f32⟩
  | _, _ => ⟨S4x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_cst : Ref sig .tc := ⟨.hbm, 66, rfl⟩
abbrev main_call2_v14 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩

abbrev nD : Nat := 1
abbrev τ : Topo := Topo.v7x

variable {F : FTy → Type} [FloatOps F]
-- ==== Proof.TwoStage.lean ====
/-
  Taking the largest entries of a long row in two stages. The row is cut into groups, the largest `K` of each group are
  kept as candidates, and the largest `K` of the candidates are taken. Nothing here names a program: a row is a function
  `key` on positions, and a selection is the list of positions that the stable sort leaves first.

  Both selections order equal entries by position, and the candidates are listed group by group, so the two agree
  position by position, ties included.
-/
module

public import Idealize.ShloMosaic.Lib.SortPrefix

@[expose] public section

namespace Cert.TwoStage

open Idealize.ShloMosaic

variable {κ : Type} [LinearOrder κ]

/-- The comparison a descending sort asks: the entry at `k` is greater than the entry at `k'`. -/
def ahead {n : Nat} (key : Fin n → κ) (k k' : Fin n) : Bool := decide (key k' < key k)

/-- The same comparison with equal entries told apart by position, the lower position first. -/
def aheadTie {n : Nat} (key : Fin n → κ) (k k' : Fin n) : Bool :=
  decide (key k' < key k) || (decide (key k = key k') && decide (k < k'))

/-- Position `k` is before `k'` when its entry is greater, or equal and at a lower position. -/
theorem aheadTie_iff {n : Nat} (key : Fin n → κ) (k k' : Fin n) :
    aheadTie key k k' = true ↔ key k' < key k ∨ (key k = key k' ∧ k < k') := by
  simp [aheadTie]

/-- The comparison with ties broken by position is a strict total order on positions. -/
theorem strict {n : Nat} (key : Fin n → κ) : StrictTotalBefore (aheadTie key) :=
  StrictTotalBefore.of_key_then_position (fun a b : κ => decide (b < a)) key (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- On a list of positions in increasing order the stable sort never asks about ties, so breaking them by position
    changes nothing. -/
theorem stableSort_ahead {n : Nat} (key : Fin n → κ) (l : List (Fin n)) (hl : l.Pairwise (· < ·)) :
    stableSort (ahead key) l = stableSort (aheadTie key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold ahead aheadTie
    simp [not_lt.mpr hab.le]

/-- The positions of a row in descending order of its entries, equal entries in order of position. -/
def rank {n : Nat} (key : Fin n → κ) : Fin n → Fin n := sortedFrom (ahead key)

/-- The sorted positions under the comparison with ties broken by position are the same. -/
theorem rank_eq {n : Nat} (key : Fin n → κ) : rank key = sortedFrom (aheadTie key) := by
  have h : sortPositions n (ahead key) = sortPositions n (aheadTie key) :=
    stableSort_ahead key _ (List.pairwise_lt_finRange n)
  funext k
  unfold rank sortedFrom
  rw [List.get_of_eq h]
  rfl

/-- Each position occurs once in the order. -/
theorem rank_injective {n : Nat} (key : Fin n → κ) : Function.Injective (rank key) := sortedFrom_injective _

/-- Each position occurs in the order. -/
theorem rank_surjective {n : Nat} (key : Fin n → κ) : Function.Surjective (rank key) := sortedFrom_surjective _

/-- An earlier place in the order holds a position that comes before. -/
theorem rank_ahead {n : Nat} (key : Fin n → κ) {i j : Fin n} (h : i < j) :
    aheadTie key (rank key i) (rank key j) = true := by
  have hn : aheadTie key (rank key j) (rank key i) = false := by
    rw [rank_eq]
    exact sortedFrom_noInversion (aheadTie key) (aheadTie key) (fun a b h => (strict key).asymm a b h) (fun _ _ h => h)
      (strict key).negTrans i j h
  rcases (strict key).total _ _ (fun e => h.ne (rank_injective key e)) with h' | h'
  · exact h'
  · rw [hn] at h'; exact absurd h' (by decide)

/-- If the candidates are compared as the positions they stand for, and each position that is no candidate comes after
    `K` candidates, then the first `K` of the order are the first `K` candidates. -/
theorem rank_of_candidates {n C K : Nat} (key : Fin n → κ) (cand : Fin C → Fin n) (hC : K ≤ C) (hn : K ≤ n)
    (hinj : Function.Injective cand)
    (hord : ∀ p q, aheadTie (fun r => key (cand r)) p q = aheadTie key (cand p) (cand q))
    (hcov : ∀ q, (∀ p, cand p ≠ q) →
      ∃ T : Fin K → Fin C, Function.Injective T ∧ ∀ j, aheadTie key (cand (T j)) q = true) (i : Fin K) :
    rank key (i.castLE hn) = cand (rank (fun r => key (cand r)) (i.castLE hC)) := by
  set s := rank (fun r => key (cand r)) with hs
  have hsinj : Function.Injective s := rank_injective _
  rw [rank_eq]
  refine (strict key).sortedFrom_eq_of_prefix hn (fun i => cand (s (i.castLE hC))) ?_ ?_ ?_ i
  · intro a b h
    have h1 := congrArg Fin.val (hsinj (hinj h))
    exact Fin.ext h1
  · intro a b hab
    show aheadTie key (cand (s (b.castLE hC))) (cand (s (a.castLE hC))) = false
    rw [← hord]
    exact (strict _).asymm _ _ (rank_ahead _ (show a.castLE hC < b.castLE hC from hab))
  · intro a p hp
    show aheadTie key p (cand (s (a.castLE hC))) = false
    by_cases hc : ∃ q, cand q = p
    · obtain ⟨q, rfl⟩ := hc
      obtain ⟨j, rfl⟩ := rank_surjective (fun r => key (cand r)) q
      rw [← hord]
      refine (strict _).asymm _ _ (rank_ahead _ ?_)
      have hj : ¬ j.val < K := fun h => hp ⟨j.val, h⟩ rfl
      have := a.isLt
      rw [Fin.lt_def]
      show a.val < j.val
      omega
    · have hc' : ∀ q, cand q ≠ p := fun q e => hc ⟨q, e⟩
      obtain ⟨T, hT, hTp⟩ := hcov p hc'
      cases hb : aheadTie key p (cand (s (a.castLE hC))) with
      | false => rfl
      | true =>
        exfalso
        have key' : ∀ j, ∃ r : Fin a.val, s ⟨r.val, by have := r.isLt; have := a.isLt; omega⟩ = T j := by
          intro j
          obtain ⟨r, hr⟩ := rank_surjective (fun r => key (cand r)) (T j)
          have h1 : aheadTie (fun r => key (cand r)) (T j) (s (a.castLE hC)) = true := by
            rw [hord]; exact (strict key).trans _ _ _ (hTp j) hb
          have hlt : r.val < a.val := by
            by_contra hge
            rw [← hr] at h1
            rcases Nat.lt_or_ge a.val r.val with h | h
            · have h2 := rank_ahead (fun r => key (cand r)) (i := a.castLE hC) (j := r) h
              rw [(strict _).asymm _ _ h2] at h1
              exact absurd h1 (by decide)
            · have h2 : r = a.castLE hC := Fin.ext (by show r.val = a.val; omega)
              rw [h2, (strict _).irrefl] at h1
              exact absurd h1 (by decide)
          exact ⟨⟨r.val, hlt⟩, hr⟩
        choose f hf using key'
        have hfi : Function.Injective f := fun x y e => hT (by rw [← hf x, ← hf y, e])
        have := Fintype.card_le_of_injective f hfi
        simp only [Fintype.card_fin] at this
        have := a.isLt
        omega

section groups

variable {G S K n : Nat}

/-- The row's position `s` of group `g`. -/
def pos (hn : n = G * S) (g : Fin G) (s : Fin S) : Fin n :=
  ⟨g.val * S + s.val, by
    subst hn
    have h1 : (g.val + 1) * S ≤ G * S := Nat.mul_le_mul_right S g.isLt
    have h2 := s.isLt
    rw [Nat.add_mul, Nat.one_mul] at h1
    omega⟩

/-- The group a candidate comes from. -/
def grp (p : Fin (G * K)) : Fin G := ⟨p.val / K, Nat.div_lt_of_lt_mul (lt_of_lt_of_eq p.isLt (Nat.mul_comm G K))⟩

/-- A candidate's place among those of its group. -/
def sub (p : Fin (G * K)) : Fin K :=
  ⟨p.val % K, Nat.mod_lt _ (Nat.pos_of_ne_zero (by rintro rfl; exact absurd p.isLt (by simp)))⟩

/-- A candidate's number is its group's first plus its place. -/
theorem grp_sub (p : Fin (G * K)) : (grp p).val * K + (sub p).val = p.val := Nat.div_add_mod' _ _

/-- The row's position that candidate `p` stands for: the `p % K`-th largest of group `p / K`. -/
def cand (hn : n = G * S) (hK : K ≤ S) (key : Fin n → κ) (p : Fin (G * K)) : Fin n :=
  pos hn (grp p) (rank (fun s => key (pos hn (grp p) s)) ((sub p).castLE hK))

/-- Every position of the row lies in a group. -/
theorem exists_pos (hn : n = G * S) (q : Fin n) : ∃ g s, q = pos hn g s := by
  subst hn
  exact ⟨grp q, sub q, Fin.ext (grp_sub q).symm⟩

/-- A group and a place in it are read off the position. -/
theorem pos_inj (hn : n = G * S) {g g' : Fin G} {s s' : Fin S} (h : pos hn g s = pos hn g' s') : g = g' ∧ s = s' := by
  have h0 : g.val * S + s.val = g'.val * S + s'.val := congrArg Fin.val h
  have hs := s.isLt
  have hs' := s'.isLt
  have hg : g.val = g'.val := by
    have e1 : (g.val * S + s.val) / S = g.val := by
      rw [Nat.mul_comm, Nat.mul_add_div (by omega), Nat.div_eq_of_lt hs, Nat.add_zero]
    have e2 : (g'.val * S + s'.val) / S = g'.val := by
      rw [Nat.mul_comm, Nat.mul_add_div (by omega), Nat.div_eq_of_lt hs', Nat.add_zero]
    rw [← e1, ← e2, h0]
  refine ⟨Fin.ext hg, Fin.ext ?_⟩
  rw [hg] at h0
  omega

/-- A position of an earlier group is a lower position. -/
theorem pos_lt_of_grp (hn : n = G * S) {g g' : Fin G} (h : g < g') (s s' : Fin S) : pos hn g s < pos hn g' s' := by
  have h1 : (g.val + 1) * S ≤ g'.val * S := Nat.mul_le_mul_right S h
  have h2 := s.isLt
  rw [Nat.add_mul, Nat.one_mul] at h1
  rw [Fin.lt_def]
  show g.val * S + s.val < g'.val * S + s'.val
  omega

/-- Within one group the comparison is that of the group's own row. -/
theorem aheadTie_pos (hn : n = G * S) (key : Fin n → κ) (g : Fin G) (s s' : Fin S) :
    aheadTie key (pos hn g s) (pos hn g s') = aheadTie (fun s => key (pos hn g s)) s s' := by
  have : (pos hn g s < pos hn g s') ↔ s < s' := by
    rw [Fin.lt_def, Fin.lt_def]
    show g.val * S + s.val < g.val * S + s'.val ↔ _
    omega
  unfold aheadTie
  simp [this]

/-- Two candidates are two positions. -/
theorem cand_injective (hn : n = G * S) (hK : K ≤ S) (key : Fin n → κ) : Function.Injective (cand (K := K) hn hK key) := by
  intro p q h
  obtain ⟨hg, hs⟩ := pos_inj hn h
  rw [hg] at hs
  have hsub := congrArg Fin.val (rank_injective _ hs)
  refine Fin.ext ?_
  rw [← grp_sub p, ← grp_sub q, hg]
  have : (sub p).val = (sub q).val := hsub
  omega

/-- Of two candidates with equal entries the one listed first stands for the lower position. -/
theorem cand_lt_of_tie (hn : n = G * S) (hK : K ≤ S) (key : Fin n → κ) {p q : Fin (G * K)} (hpq : p < q)
    (he : key (cand hn hK key p) = key (cand hn hK key q)) : cand hn hK key p < cand hn hK key q := by
  rcases lt_trichotomy (grp p) (grp q) with h | h | h
  · exact pos_lt_of_grp hn h _ _
  · have hs : (sub p).castLE hK < (sub q).castLE hK := by
      have h1 := grp_sub p
      have h2 := grp_sub q
      rw [h] at h1
      have h3 : p.val < q.val := hpq
      rw [Fin.lt_def]
      show (sub p).val < (sub q).val
      omega
    have h4 := rank_ahead (fun s => key (pos hn (grp q) s)) hs
    rw [← aheadTie_pos hn key, aheadTie_iff] at h4
    have hp : cand hn hK key p = pos hn (grp q) (rank (fun s => key (pos hn (grp q) s)) ((sub p).castLE hK)) := by
      unfold cand; rw [h]
    rw [← hp] at h4
    rcases h4 with h4 | h4
    · rw [he] at h4; exact absurd h4 (lt_irrefl _)
    · exact h4.2
  · exfalso
    have h1 := grp_sub p
    have h2 := grp_sub q
    have h3 : ((grp q).val + 1) * K ≤ (grp p).val * K := Nat.mul_le_mul_right K h
    have h4 := (sub q).isLt
    have h5 : p.val < q.val := hpq
    rw [Nat.add_mul, Nat.one_mul] at h3
    omega

/-- Candidates are compared as the positions they stand for. -/
theorem cand_order (hn : n = G * S) (hK : K ≤ S) (key : Fin n → κ) (p q : Fin (G * K)) :
    aheadTie (fun r => key (cand hn hK key r)) p q = aheadTie key (cand hn hK key p) (cand hn hK key q) := by
  rw [Bool.eq_iff_iff, aheadTie_iff, aheadTie_iff]
  constructor
  · rintro (h | ⟨h, hl⟩)
    · exact Or.inl h
    · exact Or.inr ⟨h, cand_lt_of_tie hn hK key hl h⟩
  · rintro (h | ⟨h, hl⟩)
    · exact Or.inl h
    · refine Or.inr ⟨h, ?_⟩
      rcases lt_trichotomy p q with h' | h' | h'
      · exact h'
      · rw [h'] at hl; exact absurd hl (lt_irrefl _)
      · exact absurd (cand_lt_of_tie hn hK key h' h.symm) (lt_asymm hl)

/-- A position that is no candidate comes after all `K` candidates of its group. -/
theorem cand_cover (hn : n = G * S) (hK : K ≤ S) (key : Fin n → κ) (q : Fin n) (hq : ∀ p, cand (K := K) hn hK key p ≠ q) :
    ∃ T : Fin K → Fin (G * K), Function.Injective T ∧ ∀ j, aheadTie key (cand hn hK key (T j)) q = true := by
  obtain ⟨g, s, rfl⟩ := exists_pos hn q
  have hT : ∀ j : Fin K, grp (pos (n := G * K) rfl g j) = g ∧ sub (pos (n := G * K) rfl g j) = j := fun j =>
    pos_inj (S := K) (n := G * K) rfl (Fin.ext (grp_sub _))
  refine ⟨fun j => pos rfl g j, fun a b h => (pos_inj rfl h).2, fun j => ?_⟩
  have hc : cand hn hK key (pos rfl g j) = pos hn g (rank (fun s => key (pos hn g s)) (j.castLE hK)) := by
    unfold cand; rw [(hT j).1, (hT j).2]
  obtain ⟨r, hr⟩ := rank_surjective (fun s => key (pos hn g s)) s
  show aheadTie key (cand hn hK key (pos rfl g j)) (pos hn g s) = true
  rw [hc, aheadTie_pos, ← hr]
  refine rank_ahead _ ?_
  by_contra hlt
  have hrK : r.val < K := by
    have h1 : ¬ j.val < r.val := hlt
    have := j.isLt
    omega
  refine hq (pos rfl g ⟨r.val, hrK⟩) ?_
  unfold cand
  rw [(hT _).1, (hT _).2, ← hr]
  rfl

/-- THE TWO STAGES ARE ONE: the `i`-th largest entry of the row, for `i` below `K`, stands at the position that the
    `i`-th largest candidate stands for. -/
theorem rank_two_stage (hn : n = G * S) (hK : K ≤ S) (hC : K ≤ G * K) (hKn : K ≤ n) (key : Fin n → κ) (i : Fin K) :
    rank key (i.castLE hKn) = cand hn hK key (rank (fun r => key (cand hn hK key r)) (i.castLE hC)) :=
  rank_of_candidates key (cand hn hK key) hC hKn (cand_injective hn hK key) (cand_order hn hK key)
    (cand_cover hn hK key) i

end groups

end Cert.TwoStage
-- ==== Proof.Take.lean ====
/-
  Reading `take_along_axis` at an index. As it is lowered, the operation first moves negative indices up by the axis's
  size, then gathers, and finally replaces by a filler whatever an index out of range gave. Where every index word holds
  a position of the axis, the first and the last step change nothing and the result is the operand at that position.
-/
module

public import Idealize.ShloMosaic.Lib.Pointwise
public import Idealize.ShloMosaic.Lib.StableHlo.Predicate
public import proofs.«01_k».proof.Proof.TwoStage

@[expose] public section

namespace Cert.Take

open Idealize.ShloMosaic

/-- The conjunction over any axes of a mask that is all ones is one. -/
theorem reduce_ones {s t u : Shape} {axes : List (Fin s.rank)} (M : IVec s 1) (init : IVec u 1) (h : s.ReducesTo axes t)
    (hu : 0 < u.numel) (hM : ∀ i, M i = 1#1) (hi : ∀ i, init i = 1#1) (j : t.Idx) :
    Host.reduce IntOp.andi M init h hu j = 1#1 := by
  unfold Host.reduce
  rw [hi]
  generalize (List.finRange s.numel).filter _ = l
  induction l with
  | nil => rfl
  | cons a l ih =>
    rw [List.foldl_cons, hM]
    exact ih

/-- A word that holds a number below `2 ^ 31` is not negative. -/
theorem slt_zero {p : Nat} (hp : p < 2 ^ 31) : IntOp.cmpi .slt (BitVec.ofNat 32 p) 0#32 = 0#1 := by
  have h : (BitVec.ofNat 32 p).toInt = (p : Int) :=
    StableHlo.Predicate.toInt_ofNat_small p hp
  have h0 : ¬ (p : Int) < 0 := by omega
  simp [IntOp.cmpi, BitVec.slt, h, h0]

/-- Moving negative indices up by the axis's size leaves indices that are positions. -/
theorem wrap_id {s : Shape} (J z c : IVec s 32) (p : s.Idx → Nat) (hp : ∀ i, p i < 2 ^ 31)
    (hJ : ∀ i, J i = BitVec.ofNat 32 (p i)) (hz : ∀ i, z i = 0#32) : select (cmpi .slt J z) (addi J c) J = J := by
  funext i
  have : cmpi .slt J z i = 0#1 := by
    show IntOp.cmpi .slt (J i) (z i) = 0#1
    rw [hJ, hz, slt_zero (hp i)]
  simp [select, Scalar.select, this]

/-- Index words that are positions below `N` pass the range test. -/
theorem mask_ones {s : Shape} (I z mx : IVec s 32) (N : Nat) (p : s.Idx → Nat) (hN : N ≤ 2 ^ 31) (hp : ∀ i, p i < N)
    (hI : ∀ i, I i = BitVec.ofNat 32 (p i)) (hz : ∀ i, z i = 0#32) (hmx : ∀ i, mx i = BitVec.ofNat 32 (N - 1)) (i : s.Idx) :
    andi (cmpi .sge I z) (cmpi .sle I mx) i = 1#1 := by
  show IntOp.andi (IntOp.cmpi .sge (I i) (z i)) (IntOp.cmpi .sle (I i) (mx i)) = 1#1
  have h := hp i
  have h1 : (BitVec.ofNat 32 (p i)).toInt = (p i : Int) :=
    StableHlo.Predicate.toInt_ofNat_small _ (by omega)
  have h2 : (BitVec.ofNat 32 (N - 1)).toInt = ((N - 1 : Nat) : Int) :=
    StableHlo.Predicate.toInt_ofNat_small _ (by omega)
  have h3 : (p i : Int) ≤ ((N - 1 : Nat) : Int) := by omega
  rw [hI, hz, hmx]
  simp [IntOp.cmpi, IntOp.andi, BitVec.sle, h1, h2, h3]

/-- The word of a position, read as a signed number and kept within the axis, is the position. -/
theorem clamp_pos {N p : Nat} (hN : N ≤ 2 ^ 31) (hp : p < N) : min (BitVec.ofNat 32 p).toInt.toNat (N - 1) = p := by
  have h1 : (BitVec.ofNat 32 p).toInt = (p : Int) :=
    StableHlo.Predicate.toInt_ofNat_small p (by omega)
  rw [h1]
  omega

/-- Along a batching axis a gather reads the operand at the output's own coordinate of that axis. -/
theorem batch_axis {s si t : Shape} {w : Nat} (d : GatherDims s si t) (j : t.Idx) (I : IVec si w) (a : Fin s.rank)
    (ha : a ∈ d.operandBatchingDims) : (d.operandIdx j I a).val = d.batchCoord j a := by
  show d.start j I a + d.batchCoord j a + d.offCoord j a = _
  rw [d.start_batching _ _ _ ha, d.offCoord_eq_zero _ _ (fun h => ((GatherDims.mem_sKept _ _).mp h).2 ha)]
  simp only [Nat.zero_add, Nat.add_zero]

section rank2

/-- The gather along the last axis of a `[4, N]` operand by `[4, 512]` positions, row by row. -/
def dims2 (N : Nat) (wf : GatherDims.WF ⟨2, ![4, N]⟩ ⟨3, ![4, 512, 1]⟩ ⟨2, ![4, 512]⟩ [] [1] [0] [1] [0] 2 ![1, 1]) :
    GatherDims ⟨2, ![4, N]⟩ ⟨3, ![4, 512, 1]⟩ ⟨2, ![4, 512]⟩ where
  offsetDims := []
  collapsedSliceDims := [1]
  operandBatchingDims := [0]
  startIndicesBatchingDims := [0]
  startIndexMap := [1]
  indexVectorDim := 2
  sliceSizes := ![1, 1]
  wf := wf

variable {α : Type} {N : Nat}
  (wf : GatherDims.WF ⟨2, ![4, N]⟩ ⟨3, ![4, 512, 1]⟩ ⟨2, ![4, 512]⟩ [] [1] [0] [1] [0] 2 ![1, 1])

/-- That gather at `(b, j)`, where the index word there is a position, is the operand's row `b` at the position. -/
theorem gather2 (hN : N ≤ 2 ^ 31) (x : (⟨2, ![4, N]⟩ : Shape).Idx → α) (I : IVec ⟨3, ![4, 512, 1]⟩ 32) (b : Fin 4) (j : Fin 512)
    (p : Fin N) (hI : I (ix3 b j 0) = BitVec.ofNat 32 p.val) : Host.gather (dims2 N wf) x I (ix2 b j) = x (ix2 b p) := by
  unfold Host.gather
  congr 1
  funext a
  refine Fin.ext ?_
  match a with
  | ⟨0, _⟩ =>
    have h0 : (0 : Fin 2) ∈ (dims2 N wf).operandBatchingDims := List.mem_singleton.mpr rfl
    refine (batch_axis (dims2 N wf) (ix2 b j) I 0 h0).trans ?_
    unfold GatherDims.batchCoord
    rw [dif_pos h0]
    rfl
  | ⟨1, _⟩ =>
    show (dims2 N wf).start (ix2 b j) I 1 + (dims2 N wf).batchCoord (ix2 b j) 1 + (dims2 N wf).offCoord (ix2 b j) 1 = p.val
    rw [GatherDims.batchCoord_eq_zero _ _ _ (by decide : (1 : Fin 2) ∉ [(0 : Fin 2)]),
      GatherDims.offCoord_eq_zero _ _ _ (fun h => ((GatherDims.mem_sKept _ _).mp h).1 (List.mem_singleton.mpr rfl))]
    unfold GatherDims.start
    rw [dif_pos (show (1 : Fin 2) ∈ (dims2 N wf).startIndexMap from List.mem_singleton.mpr rfl)]
    have hsi : (dims2 N wf).siIdx (ix2 b j) ⟨List.idxOf (1 : Fin 2) (dims2 N wf).startIndexMap,
        List.idxOf_lt_length_iff.2 (List.mem_singleton.mpr rfl)⟩ = ix3 b j 0 := by
      funext c
      refine Fin.ext ?_
      match c with
      | ⟨0, _⟩ => rfl
      | ⟨1, _⟩ => rfl
      | ⟨2, _⟩ => rfl
    rw [hsi, hI]
    exact clamp_pos hN p.isLt

/-- `take_along_axis` of a `[4, N]` operand along its last axis by `[4, 512]` index words, as it is lowered: `cN` is the
    axis's size, `cM` its last position, `fill` what an index out of range gives. -/
def take2 (cN cM : BitVec 32) (fill : (⟨2, ![4, 512]⟩ : Shape).Idx → α) (x : (⟨2, ![4, N]⟩ : Shape).Idx → α)
    (J : IVec ⟨2, ![4, 512]⟩ 32) : (⟨2, ![4, 512]⟩ : Shape).Idx → α :=
  let I : IVec ⟨3, ![4, 512, 1]⟩ 32 := shapeCast ⟨3, ![4, 512, 1]⟩
    (select (cmpi .slt J (broadcastInDim ⟨2, ![4, 512]⟩ ![] (by decide) (constantI ⟨0, ![]⟩ 32 0#32)))
      (addi J (broadcastInDim ⟨2, ![4, 512]⟩ ![] (by decide) (constantI ⟨0, ![]⟩ 32 cN))) J) (by decide)
  select (Host.reduce IntOp.andi
      (andi (cmpi .sge I (broadcastInDim ⟨3, ![4, 512, 1]⟩ ![] (by decide) (constantI ⟨0, ![]⟩ 32 0#32)))
        (cmpi .sle I (broadcastInDim ⟨3, ![4, 512, 1]⟩ ![0, 1, 2] (by decide)
          (broadcastInDim ⟨3, ![1, 1, 1]⟩ ![2] (by decide) (constantI ⟨1, ![1]⟩ 32 cM)))))
      (constantI ⟨0, ![]⟩ 1 1#1) (by decide : (⟨3, ![4, 512, 1]⟩ : Shape).ReducesTo [2] ⟨2, ![4, 512]⟩) (by decide))
    (Host.gather (dims2 N wf) x I) fill

/-- Where every index word is a position of the axis, the operation reads the operand there. -/
theorem take2_apply (hN : N ≤ 2 ^ 31) (cN cM : BitVec 32) (hM : cM = BitVec.ofNat 32 (N - 1))
    (fill : (⟨2, ![4, 512]⟩ : Shape).Idx → α) (x : (⟨2, ![4, N]⟩ : Shape).Idx → α) (J : IVec ⟨2, ![4, 512]⟩ 32)
    (p : Fin 4 → Fin 512 → Fin N) (hJ : ∀ b j, J (ix2 b j) = BitVec.ofNat 32 (p b j).val) (b : Fin 4) (j : Fin 512) :
    take2 wf cN cM fill x J (ix2 b j) = x (ix2 b (p b j)) := by
  unfold take2
  rw [wrap_id J _ _ (fun i => (p (i 0) (i 1)).val) (fun i => lt_of_lt_of_le (p (i 0) (i 1)).isLt hN)
    (fun i => by rw [eq_ix2 i]; exact hJ _ _) (fun i => by pointwise)]
  have hI : ∀ (b : Fin 4) (j : Fin 512) (k : Fin 1),
      shapeCast ⟨3, ![4, 512, 1]⟩ J (by decide) (ix3 b j k) = BitVec.ofNat 32 (p b j).val := fun b j k => by
    pointwise; exact hJ b j
  have hm := mask_ones (shapeCast ⟨3, ![4, 512, 1]⟩ J (by decide))
    (broadcastInDim ⟨3, ![4, 512, 1]⟩ ![] (by decide) (constantI ⟨0, ![]⟩ 32 0#32))
    (broadcastInDim ⟨3, ![4, 512, 1]⟩ ![0, 1, 2] (by decide)
          (broadcastInDim ⟨3, ![1, 1, 1]⟩ ![2] (by decide) (constantI ⟨1, ![1]⟩ 32 cM))) N (fun i => (p (i 0) (i 1)).val) hN
    (fun i => (p (i 0) (i 1)).isLt) (fun i => by rw [eq_ix3 i]; exact hI _ _ _) (fun i => by pointwise)
    (fun i => by pointwise; exact hM)
  have hr := reduce_ones _ (constantI ⟨0, ![]⟩ 1 1#1) (by decide : (⟨3, ![4, 512, 1]⟩ : Shape).ReducesTo [2] ⟨2, ![4, 512]⟩)
    (by decide) hm (fun _ => rfl) (ix2 b j)
  dsimp only
  simp only [select, hr, Scalar.select, if_true]
  exact gather2 wf hN x _ b j (p b j) (hI b j 0)

end rank2

section rank3

/-- The gather along the last axis of a `[4, 192, N]` operand by `[4, 192, 512]` positions, row by row. -/
def dims3 (N : Nat)
    (wf : GatherDims.WF ⟨3, ![4, 192, N]⟩ ⟨4, ![4, 192, 512, 1]⟩ ⟨3, ![4, 192, 512]⟩ [] [2] [0, 1] [2] [0, 1] 3 ![1, 1, 1]) :
    GatherDims ⟨3, ![4, 192, N]⟩ ⟨4, ![4, 192, 512, 1]⟩ ⟨3, ![4, 192, 512]⟩ where
  offsetDims := []
  collapsedSliceDims := [2]
  operandBatchingDims := [0, 1]
  startIndicesBatchingDims := [0, 1]
  startIndexMap := [2]
  indexVectorDim := 3
  sliceSizes := ![1, 1, 1]
  wf := wf

variable {α : Type} {N : Nat}
  (wf : GatherDims.WF ⟨3, ![4, 192, N]⟩ ⟨4, ![4, 192, 512, 1]⟩ ⟨3, ![4, 192, 512]⟩ [] [2] [0, 1] [2] [0, 1] 3 ![1, 1, 1])

/-- That gather at `(b, c, j)`, where the index word there is a position, is the operand's row `(b, c)` at it. -/
theorem gather3 (hN : N ≤ 2 ^ 31) (x : (⟨3, ![4, 192, N]⟩ : Shape).Idx → α) (I : IVec ⟨4, ![4, 192, 512, 1]⟩ 32) (b : Fin 4)
    (c : Fin 192) (j : Fin 512) (p : Fin N) (hI : I (ix4 b c j 0) = BitVec.ofNat 32 p.val) :
    Host.gather (dims3 N wf) x I (ix3 b c j) = x (ix3 b c p) := by
  unfold Host.gather
  congr 1
  funext a
  refine Fin.ext ?_
  match a with
  | ⟨0, _⟩ =>
    have h0 : (0 : Fin 3) ∈ (dims3 N wf).operandBatchingDims := List.mem_cons_self
    refine (batch_axis (dims3 N wf) (ix3 b c j) I 0 h0).trans ?_
    unfold GatherDims.batchCoord
    rw [dif_pos h0]
    rfl
  | ⟨1, _⟩ =>
    have h1 : (1 : Fin 3) ∈ (dims3 N wf).operandBatchingDims := List.mem_cons_of_mem _ (List.mem_singleton.mpr rfl)
    refine (batch_axis (dims3 N wf) (ix3 b c j) I 1 h1).trans ?_
    unfold GatherDims.batchCoord
    rw [dif_pos h1]
    rfl
  | ⟨2, _⟩ =>
    show (dims3 N wf).start (ix3 b c j) I 2 + (dims3 N wf).batchCoord (ix3 b c j) 2 + (dims3 N wf).offCoord (ix3 b c j) 2 = p.val
    rw [GatherDims.batchCoord_eq_zero _ _ _ (by decide : (2 : Fin 3) ∉ [(0 : Fin 3), 1]),
      GatherDims.offCoord_eq_zero _ _ _ (fun h => ((GatherDims.mem_sKept _ _).mp h).1 (List.mem_singleton.mpr rfl))]
    unfold GatherDims.start
    rw [dif_pos (show (2 : Fin 3) ∈ (dims3 N wf).startIndexMap from List.mem_singleton.mpr rfl)]
    have hsi : (dims3 N wf).siIdx (ix3 b c j) ⟨List.idxOf (2 : Fin 3) (dims3 N wf).startIndexMap,
        List.idxOf_lt_length_iff.2 (List.mem_singleton.mpr rfl)⟩ = ix4 b c j 0 := by
      funext d
      refine Fin.ext ?_
      match d with
      | ⟨0, _⟩ => rfl
      | ⟨1, _⟩ => rfl
      | ⟨2, _⟩ => rfl
      | ⟨3, _⟩ => rfl
    rw [hsi, hI]
    exact clamp_pos hN p.isLt

/-- `take_along_axis` of a `[4, 192, N]` operand along its last axis by `[4, 192, 512]` index words, as it is lowered. -/
def take3 (cN cM : BitVec 32) (fill : (⟨3, ![4, 192, 512]⟩ : Shape).Idx → α) (x : (⟨3, ![4, 192, N]⟩ : Shape).Idx → α)
    (J : IVec ⟨3, ![4, 192, 512]⟩ 32) : (⟨3, ![4, 192, 512]⟩ : Shape).Idx → α :=
  let I : IVec ⟨4, ![4, 192, 512, 1]⟩ 32 := shapeCast ⟨4, ![4, 192, 512, 1]⟩
    (select (cmpi .slt J (broadcastInDim ⟨3, ![4, 192, 512]⟩ ![] (by decide) (constantI ⟨0, ![]⟩ 32 0#32)))
      (addi J (broadcastInDim ⟨3, ![4, 192, 512]⟩ ![] (by decide) (constantI ⟨0, ![]⟩ 32 cN))) J) (by decide)
  select (Host.reduce IntOp.andi
      (andi (cmpi .sge I (broadcastInDim ⟨4, ![4, 192, 512, 1]⟩ ![] (by decide) (constantI ⟨0, ![]⟩ 32 0#32)))
        (cmpi .sle I (broadcastInDim ⟨4, ![4, 192, 512, 1]⟩ ![0, 1, 2, 3] (by decide)
          (broadcastInDim ⟨4, ![1, 1, 1, 1]⟩ ![3] (by decide) (constantI ⟨1, ![1]⟩ 32 cM)))))
      (constantI ⟨0, ![]⟩ 1 1#1) (by decide : (⟨4, ![4, 192, 512, 1]⟩ : Shape).ReducesTo [3] ⟨3, ![4, 192, 512]⟩) (by decide))
    (Host.gather (dims3 N wf) x I) fill

/-- Where every index word is a position of the axis, the operation reads the operand there. -/
theorem take3_apply (hN : N ≤ 2 ^ 31) (cN cM : BitVec 32) (hM : cM = BitVec.ofNat 32 (N - 1))
    (fill : (⟨3, ![4, 192, 512]⟩ : Shape).Idx → α) (x : (⟨3, ![4, 192, N]⟩ : Shape).Idx → α) (J : IVec ⟨3, ![4, 192, 512]⟩ 32)
    (p : Fin 4 → Fin 192 → Fin 512 → Fin N) (hJ : ∀ b c j, J (ix3 b c j) = BitVec.ofNat 32 (p b c j).val) (b : Fin 4)
    (c : Fin 192) (j : Fin 512) : take3 wf cN cM fill x J (ix3 b c j) = x (ix3 b c (p b c j)) := by
  unfold take3
  rw [wrap_id J _ _ (fun i => (p (i 0) (i 1) (i 2)).val) (fun i => lt_of_lt_of_le (p (i 0) (i 1) (i 2)).isLt hN)
    (fun i => by rw [eq_ix3 i]; exact hJ _ _ _) (fun i => by pointwise)]
  have hI : ∀ (b : Fin 4) (c : Fin 192) (j : Fin 512) (k : Fin 1),
      shapeCast ⟨4, ![4, 192, 512, 1]⟩ J (by decide) (ix4 b c j k) = BitVec.ofNat 32 (p b c j).val := fun b c j k => by
    pointwise; exact hJ b c j
  have hm := mask_ones (shapeCast ⟨4, ![4, 192, 512, 1]⟩ J (by decide))
    (broadcastInDim ⟨4, ![4, 192, 512, 1]⟩ ![] (by decide) (constantI ⟨0, ![]⟩ 32 0#32))
    (broadcastInDim ⟨4, ![4, 192, 512, 1]⟩ ![0, 1, 2, 3] (by decide)
          (broadcastInDim ⟨4, ![1, 1, 1, 1]⟩ ![3] (by decide) (constantI ⟨1, ![1]⟩ 32 cM))) N
    (fun i => (p (i 0) (i 1) (i 2)).val) hN
    (fun i => (p (i 0) (i 1) (i 2)).isLt) (fun i => by rw [eq_ix4 i]; exact hI _ _ _ _) (fun i => by pointwise)
    (fun i => by pointwise; exact hM)
  have hr := reduce_ones _ (constantI ⟨0, ![]⟩ 1 1#1)
    (by decide : (⟨4, ![4, 192, 512, 1]⟩ : Shape).ReducesTo [3] ⟨3, ![4, 192, 512]⟩)
    (by decide) hm (fun _ => rfl) (ix3 b c j)
  dsimp only
  simp only [select, hr, Scalar.select, if_true]
  exact gather3 wf hN x _ b c j (p b c j) (hI b c j 0)

end rank3

end Cert.Take
-- ==== Proof.Rows.lean ====
/-
  Reading `top_k` of the rows of a matrix at the ideal arithmetic. The `j`-th value of a row is the row's entry at its
  `j`-th position in descending order, and the `j`-th index is the word of that position.
-/
module

public import Idealize.ShloMosaic.PureOps.Ideal.Laws
public import proofs.«01_k».proof.Proof.Take

@[expose] public section

namespace Cert.Rows

open Idealize.ShloMosaic Cert.TwoStage

variable {A N K : Nat}

/-- The comparison that `top_k` sorts by is "greater than". -/
theorem gt_eq (a b : Ideal .f32) : (FloatOps.cmpfTotal .gt a b == 1#1) = decide (b < a) := by
  show (BitVec.ofBool (decide (b < a)) == 1#1) = decide (b < a)
  cases decide (b < a) <;> rfl

/-- Row `b` of a matrix with its column replaced. -/
theorem along_row (b : Fin A) (j k : Fin N) : (ix2 b j).along (1 : Fin 2) k = ix2 b k := by
  funext a
  match a with
  | ⟨0, _⟩ => rfl
  | ⟨1, _⟩ => rfl

/-- The position that the sort of a row puts at place `j`. -/
theorem sorted_row (x : (⟨2, ![A, N]⟩ : Shape).Idx → Ideal .f32) (y : IVec ⟨2, ![A, N]⟩ 32) (b : Fin A) (j : Fin N) :
    sortedFrom (fun k k' : Fin N => (fun l r : Ideal .f32 × BitVec 32 => FloatOps.cmpfTotal .gt l.1 r.1)
        (x ((ix2 b j).along (1 : Fin 2) k), y ((ix2 b j).along (1 : Fin 2) k))
        (x ((ix2 b j).along (1 : Fin 2) k'), y ((ix2 b j).along (1 : Fin 2) k')) == 1#1) j
      = rank (fun k => x (ix2 b k)) j := by
  unfold rank ahead
  congr 1
  funext k k'
  rw [along_row, along_row]
  exact gt_eq _ _

/-- The place a slice that starts at the origin reads. -/
theorem slice_place (h : (⟨2, ![A, N]⟩ : Shape).Slices (fun _ => 0) ⟨2, ![A, K]⟩) (hK : K ≤ N) {α : Type}
    (x : (⟨2, ![A, N]⟩ : Shape).Idx → α) (b : Fin A) (j : Fin K) :
    extractStridedSlice ⟨2, ![A, K]⟩ (fun _ => 0) x h (ix2 b j) = x (ix2 b (j.castLE hK)) := by
  unfold extractStridedSlice
  congr 1
  funext a
  refine Fin.ext ?_
  match a with
  | ⟨0, _⟩ => exact Nat.zero_add _
  | ⟨1, _⟩ => exact Nat.zero_add _

/-- The `j`-th value of row `b` is the row's entry at its `j`-th position in descending order. -/
theorem topK_value (x : (⟨2, ![A, N]⟩ : Shape).Idx → Ideal .f32)
    (h : (⟨2, ![A, N]⟩ : Shape).Slices (fun _ => 0) ⟨2, ![A, K]⟩) (hK : K ≤ N) (b : Fin A) (j : Fin K) :
    (Host.topK ⟨2, ![A, K]⟩ 1 (FloatOps.cmpfTotal .gt) x h).1 (ix2 b j)
      = x (ix2 b (rank (fun k => x (ix2 b k)) (j.castLE hK))) := by
  unfold Host.topK
  dsimp only
  rw [slice_place h hK]
  unfold Host.sort2
  rw [dif_pos (by decide : 1 < 2)]
  exact (congrArg x (along_row b (j.castLE hK) _)).trans
    (congrArg (fun p : Fin N => x (ix2 b p)) (sorted_row x (iotaInDim _ 32 1) b (j.castLE hK)))

/-- The `j`-th index of row `b` is the word of the row's `j`-th position in descending order. -/
theorem topK_index (x : (⟨2, ![A, N]⟩ : Shape).Idx → Ideal .f32)
    (h : (⟨2, ![A, N]⟩ : Shape).Slices (fun _ => 0) ⟨2, ![A, K]⟩) (hK : K ≤ N) (b : Fin A) (j : Fin K) :
    (Host.topK ⟨2, ![A, K]⟩ 1 (FloatOps.cmpfTotal .gt) x h).2 (ix2 b j)
      = BitVec.ofNat 32 (rank (fun k => x (ix2 b k)) (j.castLE hK)).val := by
  unfold Host.topK
  dsimp only
  rw [slice_place h hK]
  unfold Host.sort2
  rw [dif_pos (by decide : 1 < 2)]
  exact (congrArg (fun i : (⟨2, ![A, N]⟩ : Shape).Idx => BitVec.ofNat 32 (i (1 : Fin 2)).val)
    (along_row b (j.castLE hK) _)).trans
    (congrArg (fun p : Fin N => BitVec.ofNat 32 p.val) (sorted_row x (iotaInDim _ 32 1) b (j.castLE hK)))

end Cert.Rows
-- ==== Proof.Embed.lean ====
/-
  The two ways of picking the selected patches' embeddings, as functions of the image `x` and the confidence map `c`, and
  that they give the same array.

  One way ranks a whole row of `c` and reads the marks and the image at the first 512 positions. The other ranks each of
  8 pieces of the row, keeps 512 candidates of each with their positions, ranks the candidates, and computes the marks
  from the values it kept. Both leave at `(b, ch, t)` the mark of the row's `t`-th largest entry times the image there.
-/
module

public import proofs.«01_k».proof.Proof.Rows

@[expose] public section

noncomputable section

namespace Cert.Embed

open Idealize.ShloMosaic Cert.TwoStage Cert.Take Cert.Rows

section terms

variable {F : FTy → Type} [FloatOps F]

/-- The marks of the entries of `u`: `2 * max (floor (u - k) + 1/2) 0`, `k` being the last entry of the row of `v`. -/
def marks {N : Nat} (h1 : (⟨2, ![4, 1]⟩ : Shape).BroadcastsInDim ⟨2, ![4, N]⟩ (![0, 1] : Fin 2 → Fin 2))
    (h0 : (⟨0, ![]⟩ : Shape).BroadcastsInDim ⟨2, ![4, N]⟩ (![] : Fin 0 → Fin 2))
    (v : (⟨2, ![4, 512]⟩ : Shape).Idx → F .f32) (u : (⟨2, ![4, N]⟩ : Shape).Idx → F .f32) :
    (⟨2, ![4, N]⟩ : Shape).Idx → F .f32 :=
  mulf (maximumf (addf (Host.floor (subf u (broadcastInDim ⟨2, ![4, N]⟩ ![0, 1] h1
      (broadcastInDim ⟨2, ![4, 1]⟩ ![0] (by decide)
        (shapeCast ⟨1, ![4]⟩ (extractStridedSlice ⟨2, ![4, 1]⟩ ![0, 511] v (by decide)) (by decide))))))
      (broadcastInDim ⟨2, ![4, N]⟩ ![] h0 (constant ⟨0, ![]⟩ .f32 0x3F000000#32)))
      (broadcastInDim ⟨2, ![4, N]⟩ ![] h0 (constant ⟨0, ![]⟩ .f32 0x00000000#32)))
    (broadcastInDim ⟨2, ![4, N]⟩ ![] h0 (constant ⟨0, ![]⟩ .f32 0x40000000#32))

/-- A `[4, 512]` array repeated along the channels. -/
def spread {α : Type} (w : (⟨2, ![4, 512]⟩ : Shape).Idx → α) : (⟨3, ![4, 192, 512]⟩ : Shape).Idx → α :=
  broadcastInDim ⟨3, ![4, 192, 512]⟩ ![0, 1, 2] (by decide) (broadcastInDim ⟨3, ![4, 1, 512]⟩ ![0, 2] (by decide) w)

/-- The image read at index words, all channels at the same ones. -/
def patches (x : (⟨3, ![4, 192, 50176]⟩ : Shape).Idx → F .f32) (J : IVec ⟨2, ![4, 512]⟩ 32) :
    (⟨3, ![4, 192, 512]⟩ : Shape).Idx → F .f32 :=
  take3 (by decide) 50176#32 50175#32
    (broadcastInDim ⟨3, ![4, 192, 512]⟩ ![] (by decide) (constant ⟨0, ![]⟩ .f32 0x7FC00000#32)) x (spread J)

/-- The embeddings by ranking the whole row. -/
def whole (x : (⟨3, ![4, 192, 50176]⟩ : Shape).Idx → F .f32) (c : (⟨2, ![4, 50176]⟩ : Shape).Idx → F .f32) :
    (⟨3, ![4, 192, 512]⟩ : Shape).Idx → F .f32 :=
  mulf (spread (take2 (by decide) 50176#32 50175#32
      (broadcastInDim ⟨2, ![4, 512]⟩ ![] (by decide) (constant ⟨0, ![]⟩ .f32 0x7FC00000#32))
      (marks (by decide) (by decide) (Host.topK ⟨2, ![4, 512]⟩ 1 (FloatOps.cmpfTotal .gt) c (by decide)).1 c)
      (Host.topK ⟨2, ![4, 512]⟩ 1 (FloatOps.cmpfTotal .gt) c (by decide)).2))
    (patches x (Host.topK ⟨2, ![4, 512]⟩ 1 (FloatOps.cmpfTotal .gt) c (by decide)).2)

/-- The number 8, with a divisor of zero replaced by one. -/
def eight : IVec ⟨0, ![]⟩ 32 :=
  select (cmpi .eq (constantI ⟨0, ![]⟩ 32 8#32) (constantI ⟨0, ![]⟩ 32 0#32)) (constantI ⟨0, ![]⟩ 32 1#32)
    (constantI ⟨0, ![]⟩ 32 8#32)

/-- The remainders of `0 … 31` by 8, before their sign is adjusted. -/
def rems : IVec ⟨1, ![32]⟩ 32 := Host.remsi (iotaInDim ⟨1, ![32]⟩ 32 0) (broadcastInDim ⟨1, ![32]⟩ ![] (by decide) eight)

/-- The place of each of the 32 pieces in its row: the remainder of `0 … 31` by 8, with the sign of the divisor. -/
def piece : IVec ⟨1, ![32]⟩ 32 :=
  select (andi (cmpi .ne (cmpi .slt rems (broadcastInDim ⟨1, ![32]⟩ ![] (by decide) (constantI ⟨0, ![]⟩ 32 0#32)))
      (broadcastInDim ⟨1, ![32]⟩ ![] (by decide) (cmpi .slt eight (constantI ⟨0, ![]⟩ 32 0#32))))
      (cmpi .ne rems (broadcastInDim ⟨1, ![32]⟩ ![] (by decide) (constantI ⟨0, ![]⟩ 32 0#32))))
    (addi rems (broadcastInDim ⟨1, ![32]⟩ ![] (by decide) eight)) rems

/-- The 512 largest of each piece: values and positions in the piece. -/
def best (c : (⟨2, ![4, 50176]⟩ : Shape).Idx → F .f32) : ((⟨2, ![32, 512]⟩ : Shape).Idx → F .f32) × IVec ⟨2, ![32, 512]⟩ 32 :=
  Host.topK ⟨2, ![32, 512]⟩ 1 (FloatOps.cmpfTotal .gt) (shapeCast ⟨2, ![32, 6272]⟩ c (by decide)) (by decide)

/-- The candidates' values, a row of 4096 per image. -/
def candValues (c : (⟨2, ![4, 50176]⟩ : Shape).Idx → F .f32) : (⟨2, ![4, 4096]⟩ : Shape).Idx → F .f32 :=
  shapeCast ⟨2, ![4, 4096]⟩ (best c).1 (by decide)

/-- The candidates' positions in the whole row: in the piece, plus the piece's first position. -/
def candPlaces (c : (⟨2, ![4, 50176]⟩ : Shape).Idx → F .f32) : IVec ⟨2, ![4, 4096]⟩ 32 :=
  shapeCast ⟨2, ![4, 4096]⟩ (addi (best c).2 (broadcastInDim ⟨2, ![32, 512]⟩ ![0, 1] (by decide)
    (broadcastInDim ⟨2, ![32, 1]⟩ ![0] (by decide)
      (muli piece (broadcastInDim ⟨1, ![32]⟩ ![] (by decide) (constantI ⟨0, ![]⟩ 32 6272#32)))))) (by decide)

/-- The embeddings by ranking the candidates. -/
def staged (x : (⟨3, ![4, 192, 50176]⟩ : Shape).Idx → F .f32) (c : (⟨2, ![4, 50176]⟩ : Shape).Idx → F .f32) :
    (⟨3, ![4, 192, 512]⟩ : Shape).Idx → F .f32 :=
  mulf (spread (marks (by decide) (by decide)
      (Host.topK ⟨2, ![4, 512]⟩ 1 (FloatOps.cmpfTotal .gt) (candValues c) (by decide)).1
      (Host.topK ⟨2, ![4, 512]⟩ 1 (FloatOps.cmpfTotal .gt) (candValues c) (by decide)).1))
    (patches x (take2 (by decide) 4096#32 4095#32
      (broadcastInDim ⟨2, ![4, 512]⟩ ![] (by decide) (constantI ⟨0, ![]⟩ 32 2147483648#32))
      (candPlaces c) (Host.topK ⟨2, ![4, 512]⟩ 1 (FloatOps.cmpfTotal .gt) (candValues c) (by decide)).2))

end terms

/-- The mark of one entry `u` against the threshold `k`. -/
def mark (k u : Ideal .f32) : Ideal .f32 :=
  max (Ideal.liftRound Int.floor (u - k) + Ideal.ofBits .f32 0x3F000000#32) 0 * Ideal.ofBits .f32 0x40000000#32

/-- The marks read at an entry. -/
theorem marks_apply {N : Nat} (h1 : (⟨2, ![4, 1]⟩ : Shape).BroadcastsInDim ⟨2, ![4, N]⟩ (![0, 1] : Fin 2 → Fin 2))
    (h0 : (⟨0, ![]⟩ : Shape).BroadcastsInDim ⟨2, ![4, N]⟩ (![] : Fin 0 → Fin 2))
    (v : (⟨2, ![4, 512]⟩ : Shape).Idx → Ideal .f32) (u : (⟨2, ![4, N]⟩ : Shape).Idx → Ideal .f32) (b : Fin 4) (j : Fin N) :
    marks h1 h0 v u (ix2 b j) = mark (v (ix2 b 511)) (u (ix2 b j)) := by
  pointwise [marks]
  rfl

/-- The repeated array read at an entry. -/
theorem spread_apply {α : Type} (w : (⟨2, ![4, 512]⟩ : Shape).Idx → α) (b : Fin 4) (ch : Fin 192) (t : Fin 512) :
    spread w (ix3 b ch t) = w (ix2 b t) := by
  pointwise [spread]

/-- Piece `q` is at place `q % 8` of its row. -/
theorem piece_apply (q : Fin 32) : piece (ix1 q) = BitVec.ofNat 32 (q.val % 8) := by
  revert q
  decide

/-- The image read at the words of positions. -/
theorem patches_apply (x : (⟨3, ![4, 192, 50176]⟩ : Shape).Idx → Ideal .f32) (J : IVec ⟨2, ![4, 512]⟩ 32)
    (p : Fin 4 → Fin 512 → Fin 50176) (hJ : ∀ b j, J (ix2 b j) = BitVec.ofNat 32 (p b j).val) (b : Fin 4) (ch : Fin 192)
    (t : Fin 512) : patches x J (ix3 b ch t) = x (ix3 b ch (p b t)) :=
  take3_apply _ (by decide) _ _ rfl _ x _ (fun b _ t => p b t) (fun b ch t => by rw [spread_apply]; exact hJ b t) b ch t

/-- The row's position that is `t`-th in descending order of its entries. -/
def place (c : (⟨2, ![4, 50176]⟩ : Shape).Idx → Ideal .f32) (b : Fin 4) (t : Fin 512) : Fin 50176 :=
  rank (fun k => c (ix2 b k)) (t.castLE (by decide))

/-- The embeddings by ranking the whole row, read at an entry. -/
theorem whole_apply (x : (⟨3, ![4, 192, 50176]⟩ : Shape).Idx → Ideal .f32) (c : (⟨2, ![4, 50176]⟩ : Shape).Idx → Ideal .f32)
    (b : Fin 4) (ch : Fin 192) (t : Fin 512) : whole x c (ix3 b ch t)
      = mark (c (ix2 b (place c b 511))) (c (ix2 b (place c b t))) * x (ix3 b ch (place c b t)) := by
  unfold whole
  show spread _ (ix3 b ch t) * patches x _ (ix3 b ch t) = _
  rw [spread_apply, patches_apply x _ (place c) (fun b j => topK_index c (by decide) (by decide) b j),
    take2_apply _ (by decide) _ _ rfl _ _ _ (place c) (fun b j => topK_index c (by decide) (by decide) b j), marks_apply,
    topK_value c (by decide) (by decide)]
  rfl

/-- The whole row's position that candidate `r` of row `b` stands for. -/
def stands (c : (⟨2, ![4, 50176]⟩ : Shape).Idx → Ideal .f32) (b : Fin 4) (r : Fin (8 * 512)) : Fin 50176 :=
  cand (n := 50176) (G := 8) (S := 6272) (K := 512) (by decide) (by decide) (fun k => c (ix2 b k)) r

/-- The number of the piece that candidate `r` of row `b` comes from. -/
def pieceOf (b : Fin 4) (r : Fin (8 * 512)) : Fin 32 := ⟨b.val * 8 + (grp r).val, by have := b.isLt; have := (grp r).isLt; omega⟩

/-- A piece, cut from the array of confidences, is the row at the piece's positions. -/
theorem piece_row (c : (⟨2, ![4, 50176]⟩ : Shape).Idx → Ideal .f32) (b : Fin 4) (r : Fin (8 * 512)) (k : Fin 6272) :
    shapeCast ⟨2, ![32, 6272]⟩ c (by decide) (ix2 (pieceOf b r) k)
      = c (ix2 b (pos (n := 50176) (G := 8) (S := 6272) (by decide) (grp r) k)) := by
  pointwise
  have := (grp r).isLt
  exact congrArg c (congrArg₂ ix2 (Fin.ext (show (b.val * 8 + (grp r).val) / 8 = b.val by omega))
    (Fin.ext (show (b.val * 8 + (grp r).val) % 8 * 6272 + k.val = (grp r).val * 6272 + k.val by omega)))

/-- The candidates' values: the row at the positions they stand for. -/
theorem candValues_apply (c : (⟨2, ![4, 50176]⟩ : Shape).Idx → Ideal .f32) (b : Fin 4) (r : Fin (8 * 512)) :
    candValues c (ix2 b r) = c (ix2 b (stands c b r)) := by
  have h : candValues c (ix2 b r) = (best c).1 (ix2 (pieceOf b r) (sub r)) := by
    unfold candValues
    pointwise
    rfl
  rw [h]
  refine (topK_value (shapeCast ⟨2, ![32, 6272]⟩ c (by decide)) (by decide) (by decide) (pieceOf b r) (sub r)).trans ?_
  rw [piece_row, funext (piece_row c b r)]
  rfl

/-- The candidates' words: those of the positions they stand for. -/
theorem candPlaces_apply (c : (⟨2, ![4, 50176]⟩ : Shape).Idx → Ideal .f32) (b : Fin 4) (r : Fin (8 * 512)) :
    candPlaces c (ix2 b r) = BitVec.ofNat 32 (stands c b r).val := by
  have h : candPlaces c (ix2 b r) = (best c).2 (ix2 (pieceOf b r) (sub r)) + piece (ix1 (pieceOf b r)) * 6272#32 := by
    unfold candPlaces
    pointwise
    rfl
  have hb : (best c).2 (ix2 (pieceOf b r) (sub r)) = _ :=
    topK_index (shapeCast ⟨2, ![32, 6272]⟩ c (by decide)) (by decide) (by decide) (pieceOf b r) (sub r)
  have hg : (pieceOf b r).val % 8 = (grp r).val := by
    have := (grp r).isLt
    show (b.val * 8 + (grp r).val) % 8 = _
    omega
  rw [h, hb, piece_apply, funext (piece_row c b r), hg, ← BitVec.ofNat_mul, ← BitVec.ofNat_add, Nat.add_comm]
  rfl

/-- The embeddings by ranking the candidates, read at an entry. -/
theorem staged_apply (x : (⟨3, ![4, 192, 50176]⟩ : Shape).Idx → Ideal .f32) (c : (⟨2, ![4, 50176]⟩ : Shape).Idx → Ideal .f32)
    (b : Fin 4) (ch : Fin 192) (t : Fin 512) : staged x c (ix3 b ch t)
      = mark (c (ix2 b (place c b 511))) (c (ix2 b (place c b t))) * x (ix3 b ch (place c b t)) := by
  have hr : ∀ b t, place c b t = stands c b (rank (fun k => candValues c (ix2 b k)) (t.castLE (by decide))) := fun b t => by
    have := rank_two_stage (n := 50176) (G := 8) (S := 6272) (K := 512) (by decide) (by decide) (by decide) (by decide)
      (fun k => c (ix2 b k)) t
    rw [funext (candValues_apply c b)]
    exact this
  have hv : ∀ b t, (Host.topK ⟨2, ![4, 512]⟩ 1 (FloatOps.cmpfTotal .gt) (candValues c) (by decide)).1 (ix2 b t)
      = c (ix2 b (place c b t)) := fun b t => by
    rw [topK_value (candValues c) (by decide) (by decide), hr, candValues_apply c]
  have hp : ∀ b t, take2 (by decide) 4096#32 4095#32
      (broadcastInDim ⟨2, ![4, 512]⟩ ![] (by decide) (constantI ⟨0, ![]⟩ 32 2147483648#32))
      (candPlaces c) (Host.topK ⟨2, ![4, 512]⟩ 1 (FloatOps.cmpfTotal .gt) (candValues c) (by decide)).2 (ix2 b t)
      = BitVec.ofNat 32 (place c b t).val := fun b t => by
    rw [take2_apply _ (by decide) _ _ rfl _ _ _ _ (fun b j => topK_index (candValues c) (by decide) (by decide) b j), hr,
      candPlaces_apply c]
  unfold staged
  show spread _ (ix3 b ch t) * patches x _ (ix3 b ch t) = _
  rw [spread_apply, patches_apply x _ (place c) hp, marks_apply, hv, hv]

/-- The two ways give the same embeddings. -/
theorem staged_eq_whole (x : (⟨3, ![4, 192, 50176]⟩ : Shape).Idx → Ideal .f32)
    (c : (⟨2, ![4, 50176]⟩ : Shape).Idx → Ideal .f32) : staged x c = whole x c := by
  funext i
  rw [eq_ix3 i]
  exact (staged_apply x c _ _ _).trans (whole_apply x c _ _ _).symm

end Cert.Embed
-- ==== Proof.Gram.lean ====
/-
  The output as a sum over the channels. Each channel's patches are projected by the channel's own matrix and shifted by
  its bias, and the output at `(b, i, j)` is the sum over the channels of the products of the projections at `i` and `j`.
-/
module

public import proofs.«01_k».proof.Proof.Embed

@[expose] public section

noncomputable section

namespace Cert.Gram

open Idealize.ShloMosaic

/-- The projection of channel `ch` of image `b` at output feature `o`: its row of `E` by the channel's matrix, plus bias. -/
def proj (E : (⟨3, ![4, 192, 512]⟩ : Shape).Idx → Ideal .f32) (W : (⟨3, ![192, 512, 512]⟩ : Shape).Idx → Ideal .f32)
    (B : (⟨3, ![1, 192, 512]⟩ : Shape).Idx → Ideal .f32) (b : Fin 4) (ch : Fin 192) (o : Fin 512) : Ideal .f32 :=
  (∑ t : Fin 512, E (ix3 b ch t) * W (ix3 ch t o)) + B (ix3 0 ch o)

/-- One channel's contribution to the output at `(b, i, j)`. -/
def term (E : (⟨3, ![4, 192, 512]⟩ : Shape).Idx → Ideal .f32) (W : (⟨3, ![192, 512, 512]⟩ : Shape).Idx → Ideal .f32)
    (B : (⟨3, ![1, 192, 512]⟩ : Shape).Idx → Ideal .f32) (b : Fin 4) (i j : Fin 512) (ch : Fin 192) : Ideal .f32 :=
  proj E W B b ch i * proj E W B b ch j

/-- The output at `(b, i, j)`. -/
def gram (E : (⟨3, ![4, 192, 512]⟩ : Shape).Idx → Ideal .f32) (W : (⟨3, ![192, 512, 512]⟩ : Shape).Idx → Ideal .f32)
    (B : (⟨3, ![1, 192, 512]⟩ : Shape).Idx → Ideal .f32) (b : Fin 4) (i j : Fin 512) : Ideal .f32 :=
  ∑ ch : Fin 192, term E W B b i j ch

/-- The `k`-th channel of block `n`. -/
def chan (n : Fin 24) (k : Fin 8) : Fin 192 := ⟨n.val * 8 + k.val, by have := n.isLt; have := k.isLt; omega⟩

/-- A sum over the channels is the sum over the blocks of the blocks' sums. -/
theorem sum_blocks {M : Type} [AddCommMonoid M] (f : Fin 192 → M) :
    ∑ ch, f ch = ∑ n : Fin 24, ∑ k : Fin 8, f (chan n k) := by
  rw [← Fintype.sum_prod_type']
  refine (Fintype.sum_equiv (finProdFinEquiv (m := 24) (n := 8)) _ _ fun p => ?_).symm
  refine congrArg f (Fin.ext ?_)
  show p.1.val * 8 + p.2.val = p.2.val + 8 * p.1.val
  omega

end Cert.Gram
-- ==== Proof.KernelHost.lean ====
/-
  What the operations before the kernel launch leave in the array of embeddings: the staged selection of the reshaped
  image and confidence map.
-/
module

public import proofs.«01_k».proof.Proof.Gen.KernelIdeal.Value
public import Idealize.ShloMosaic.Lib.StableHlo.ReadAt
public import proofs.«01_k».proof.Proof.Gram

@[expose] public section

noncomputable section

namespace Cert.KernelIdeal.Gen

open Idealize.ShloMosaic Idealize.ShloMosaic.TcCoe Idealize.SL.Sem

variable {F : FTy → Type} [FloatOps F]

set_option maxRecDepth 8192 in
set_option maxHeartbeats 4000000 in
/-- The embeddings the launch is given are the staged selection from the reshaped arguments. -/
theorem embeddings_eq (m : (ℓ : Loc nD τ sig) → Buf (Elt F) ℓ) (c : Dev nD) :
    V m c main_v29 = Cert.Embed.staged (F := F)
      (shapeCast ⟨3, ![4, 192, 50176]⟩ (s := ⟨4, ![4, 192, 224, 224]⟩) (m ((c.tc : Thread nD τ).loc main_arg0)) (by decide))
      (shapeCast ⟨2, ![4, 50176]⟩ (s := ⟨3, ![4, 224, 224]⟩) (m ((c.tc : Thread nD τ).loc main_arg1)) (by decide)) := by
  unfold V
  after_reads_simp
  simp -implicitDefEqProofs only [StableHlo.TRef.toBuf, StableHlo.TRef.ofBuf, cast_cast, cast_eq]
  rfl

end Cert.KernelIdeal.Gen
-- ==== Proof.ReferenceValue.lean ====
/-
  What the reference computes: the sum over the channels of the products of the projections of the embeddings that
  ranking the whole row selects.
-/
module

public import proofs.«01_k».proof.Proof.Gen.ReferenceIdeal.Run
public import proofs.«01_k».proof.Proof.KernelHost

@[expose] public section

noncomputable section

namespace Cert.ReferenceIdeal.Value

open Idealize.ShloMosaic Idealize.ShloMosaic.TcCoe Idealize.SL.Sem Cert.ReferenceIdeal.Gen

variable {F : FTy → Type} [FloatOps F]

/-- The embeddings as the reference selects them from its arguments. -/
def emb (m : (ℓ : Loc nD τ sig) → Buf (Elt F) ℓ) (c : Dev nD) : (⟨3, ![4, 192, 512]⟩ : Shape).Idx → F .f32 :=
  Cert.Embed.whole (F := F)
    (shapeCast ⟨3, ![4, 192, 50176]⟩ (s := ⟨4, ![4, 192, 224, 224]⟩) (m ((c.tc : Thread nD τ).loc main_arg0)) (by decide))
    (shapeCast ⟨2, ![4, 50176]⟩ (s := ⟨3, ![4, 224, 224]⟩) (m ((c.tc : Thread nD τ).loc main_arg1)) (by decide))

/-- The projections of all channels, as the reference computes them from embeddings, matrices and biases. -/
def projections (E : S4x192x512.Idx → F .f32) (W : S192x512x512.Idx → F .f32) (B : S1x192x512.Idx → F .f32) :
    S4x192x512.Idx → F .f32 :=
  addf (transpose S4x192x512 [2, 0, 1] (Host.dotGeneral dot_S192x512x512_S4x192x512_S192x512x4_1_2_2_0_0_1 none W E)
    transposes_S192x512x4_S4x192x512_2_0_1) (broadcastInDim S4x192x512 ![0, 1, 2] bcast_S1x192x512_S4x192x512_0_1_2 B)

/-- The output, as the reference computes it from the projections. -/
def products (e : S4x192x512.Idx → F .f32) : S4x512x512.Idx → F .f32 :=
  Host.dotGeneral dot_S4x512x192_S4x192x512_S4x512x512_2_1_1_2_0_0 none
    (transpose S4x512x192 [0, 2, 1] e transposes_S4x192x512_S4x512x192_0_2_1) e

set_option maxRecDepth 8192 in
/-- The reference's result is the products of the projections of the embeddings. -/
theorem res_eq (m : (ℓ : Loc nD τ sig) → Buf (Elt F) ℓ) (c : Dev nD) : res_main_v25 m c
    = products (projections (emb m c) (m ((c.tc : Thread nD τ).loc main_arg2)) (m ((c.tc : Thread nD τ).loc main_arg3))) :=
  rfl

/-- The projections read at an entry. -/
theorem projections_apply (E : S4x192x512.Idx → Ideal .f32) (W : S192x512x512.Idx → Ideal .f32)
    (B : S1x192x512.Idx → Ideal .f32) (b : Fin 4) (ch : Fin 192) (o : Fin 512) :
    projections E W B (ix3 b ch o) = Cert.Gram.proj E W B b ch o := by
  pointwise [projections]
  unfold Cert.Gram.proj
  exact congrArg (· + B (ix3 0 ch o)) (Finset.sum_congr rfl fun t _ => mul_comm _ _)

/-- The products read at an entry. -/
theorem products_apply (e : S4x192x512.Idx → Ideal .f32) (b : Fin 4) (i j : Fin 512) :
    products e (ix3 b i j) = ∑ ch : Fin 192, e (ix3 b ch i) * e (ix3 b ch j) := by
  pointwise [products]

/-- The reference's result read at an entry. -/
theorem res_apply (m : (ℓ : Loc nD τ sig) → Buf (Elt Ideal) ℓ) (c : Dev nD) (b : Fin 4) (i j : Fin 512) :
    res_main_v25 m c (ix3 b i j) = Cert.Gram.gram (emb m c) (m ((c.tc : Thread nD τ).loc main_arg2))
      (m ((c.tc : Thread nD τ).loc main_arg3)) b i j := by
  rw [res_eq]
  refine (products_apply _ b i j).trans (Finset.sum_congr rfl fun ch _ => ?_)
  rw [projections_apply, projections_apply]
  rfl

end Cert.ReferenceIdeal.Value
-- ==== Proof.KernelValue.lean ====
/-
  What the kernel's launch leaves in its output: the sum over the channels of the products of the projections of the
  embeddings it is given. Each of the 24 grid points adds the terms of its 8 channels to the one output block.
-/
module

public import proofs.«01_k».proof.Proof.ReferenceValue

@[expose] public section

noncomputable section

namespace Cert.KernelIdeal.Gen

open Idealize.ShloMosaic Idealize.ShloMosaic.TcCoe Idealize.SL.Sem Cert.Gram

/-- One grid point's step, read at an entry: what was there plus the terms of the point's 8 channels. -/
theorem pay_apply (e : Vec Ideal S4x8x512 .f32) (w : Vec Ideal S8x512x512 .f32) (bias : Vec Ideal S1x8x512 .f32)
    (acc : Vec Ideal S4x512x512 .f32) (b : Fin 4) (i j : Fin 512) :
    k0_pay2 e w bias acc (ix3 b i j) = acc (ix3 b i j)
      + ∑ k : Fin 8, ((∑ t : Fin 512, e (ix3 b k t) * w (ix3 k t i)) + bias (ix3 0 k i))
          * ((∑ t : Fin 512, e (ix3 b k t) * w (ix3 k t j)) + bias (ix3 0 k j)) := by
  pointwise [k0_pay2]

/-- The block indices of the three operands at a grid point. -/
theorem index_facts : ∀ t : Fin grid0.N, cc0_transform_0 (grid0.coords t) = ![0, t.val, 0]
    ∧ cc0_transform_1 (grid0.coords t) = ![t.val, 0, 0] ∧ cc0_transform_2 (grid0.coords t) = ![0, t.val, 0] := by
  decide

variable (m : (ℓ : Loc nD τ sig) → Buf (Elt Ideal) ℓ) (c : Dev nD)

/-- Grid point `n`, as a number below 24. -/
def point (t : Fin cfg0.N) : Fin 24 := ⟨t.val, lt_of_lt_of_eq t.isLt N_0⟩

/-- The block of embeddings that a grid point is given. -/
def embBlock (t : Fin cfg0.N) : Vec Ideal S4x8x512 .f32 := iblk m c 0 t

/-- The block of matrices that a grid point is given. -/
def matBlock (t : Fin cfg0.N) : Vec Ideal S8x512x512 .f32 := iblk m c 1 t

/-- The block of biases that a grid point is given. -/
def biasBlock (t : Fin cfg0.N) : Vec Ideal S1x8x512 .f32 := iblk m c 2 t

/-- The block of embeddings at a grid point: the point's channels. -/
theorem block_emb (t : Fin cfg0.N) (b : Fin 4) (k : Fin 8) (o : Fin 512) :
    embBlock m c t (ix3 b k o)
      = (V m c main_v29 : Vec Ideal S4x192x512 .f32) (ix3 b (chan (point t) k) o) := by
  have h := (index_facts t).1
  show (V m c main_v29 : Vec Ideal S4x192x512 .f32) (((cfg0.win 0).blk t).view.emb (ix3 b k o)) = _
  refine congrArg _ (funext fun a => Fin.ext ?_)
  match a with
  | ⟨0, _⟩ =>
    show cc0_transform_0 (grid0.coords t) 0 * 4 + 1 * b.val = b.val
    rw [h]
    show 0 * 4 + 1 * b.val = b.val
    omega
  | ⟨1, _⟩ =>
    show cc0_transform_0 (grid0.coords t) 1 * 8 + 1 * k.val = t.val * 8 + k.val
    rw [h]
    show t.val * 8 + 1 * k.val = t.val * 8 + k.val
    omega
  | ⟨2, _⟩ =>
    show cc0_transform_0 (grid0.coords t) 2 * 512 + 1 * o.val = o.val
    rw [h]
    show 0 * 512 + 1 * o.val = o.val
    omega

/-- The block of matrices at a grid point: the point's channels. -/
theorem block_mat (t : Fin cfg0.N) (k : Fin 8) (p o : Fin 512) :
    matBlock m c t (ix3 k p o)
      = (m ((c.tc : Thread nD τ).loc main_arg2) : Vec Ideal S192x512x512 .f32) (ix3 (chan (point t) k) p o) := by
  have h := (index_facts t).2.1
  show (V m c main_arg2 : Vec Ideal S192x512x512 .f32) (((cfg0.win 1).blk t).view.emb (ix3 k p o)) = _
  rw [V_main_arg2]
  refine congrArg _ (funext fun a => Fin.ext ?_)
  match a with
  | ⟨0, _⟩ =>
    show cc0_transform_1 (grid0.coords t) 0 * 8 + 1 * k.val = t.val * 8 + k.val
    rw [h]
    show t.val * 8 + 1 * k.val = t.val * 8 + k.val
    omega
  | ⟨1, _⟩ =>
    show cc0_transform_1 (grid0.coords t) 1 * 512 + 1 * p.val = p.val
    rw [h]
    show 0 * 512 + 1 * p.val = p.val
    omega
  | ⟨2, _⟩ =>
    show cc0_transform_1 (grid0.coords t) 2 * 512 + 1 * o.val = o.val
    rw [h]
    show 0 * 512 + 1 * o.val = o.val
    omega

/-- The block of biases at a grid point: the point's channels. -/
theorem block_bias (t : Fin cfg0.N) (k : Fin 8) (o : Fin 512) :
    biasBlock m c t (ix3 0 k o)
      = (m ((c.tc : Thread nD τ).loc main_arg3) : Vec Ideal S1x192x512 .f32) (ix3 0 (chan (point t) k) o) := by
  have h := (index_facts t).2.2
  show (V m c main_arg3 : Vec Ideal S1x192x512 .f32) (((cfg0.win 2).blk t).view.emb (ix3 0 k o)) = _
  rw [V_main_arg3]
  refine congrArg _ (funext fun a => Fin.ext ?_)
  match a with
  | ⟨0, _⟩ =>
    show cc0_transform_2 (grid0.coords t) 0 * 1 + 1 * 0 = 0
    rw [h]
    rfl
  | ⟨1, _⟩ =>
    show cc0_transform_2 (grid0.coords t) 1 * 8 + 1 * k.val = t.val * 8 + k.val
    rw [h]
    show t.val * 8 + 1 * k.val = t.val * 8 + k.val
    omega
  | ⟨2, _⟩ =>
    show cc0_transform_2 (grid0.coords t) 2 * 512 + 1 * o.val = o.val
    rw [h]
    show 0 * 512 + 1 * o.val = o.val
    omega

/-- What grid point `n` adds to the output: the terms of its channels, zero past the grid. -/
def addend (n : ℕ) (i : S4x512x512.Idx) : Ideal .f32 :=
  if h : n < 24 then
    ∑ k : Fin 8, term (V m c main_v29) (m ((c.tc : Thread nD τ).loc main_arg2)) (m ((c.tc : Thread nD τ).loc main_arg3))
      (i 0) (i 1) (i 2) (chan ⟨n, h⟩ k)
  else 0

/-- A grid point's step at the entry `(b, i, j)` adds the point's addend. -/
theorem step_entry (n : ℕ) (h : n < cfg0.N) (acc : Vec Ideal S4x512x512 .f32) (b : Fin 4) (i j : Fin 512) :
    k0_pay2 (iblk m c 0 ⟨n, h⟩) (iblk m c 1 ⟨n, h⟩) (iblk m c 2 ⟨n, h⟩) acc (ix3 b i j)
      = acc (ix3 b i j) + addend m c n (ix3 b i j) := by
  have hn : n < 24 := lt_of_lt_of_eq h N_0
  have hp : point ⟨n, h⟩ = ⟨n, hn⟩ := rfl
  refine (pay_apply _ _ _ acc b i j).trans (congrArg (acc (ix3 b i j) + ·) ?_)
  unfold addend
  rw [dif_pos hn]
  refine Finset.sum_congr rfl fun k _ => ?_
  have hs : ∀ o : Fin 512, (∑ t : Fin 512, embBlock m c ⟨n, h⟩ (ix3 b k t) * matBlock m c ⟨n, h⟩ (ix3 k t o))
      + biasBlock m c ⟨n, h⟩ (ix3 0 k o)
      = proj (V m c main_v29) (m ((c.tc : Thread nD τ).loc main_arg2)) (m ((c.tc : Thread nD τ).loc main_arg3)) b
          (chan ⟨n, hn⟩ k) o := fun o => by
    simp only [block_emb, block_mat, block_bias, hp]
    rfl
  exact congrArg₂ (· * ·) (hs i) (hs j)

/-- A grid point's step adds the point's addend. -/
theorem step_apply (n : ℕ) (h : n < cfg0.N) (acc : Vec Ideal S4x512x512 .f32) (i : S4x512x512.Idx) :
    k0_pay2 (iblk m c 0 ⟨n, h⟩) (iblk m c 1 ⟨n, h⟩) (iblk m c 2 ⟨n, h⟩) acc i = acc i + addend m c n i := by
  rw [eq_ix3 i]
  exact step_entry m c n h acc _ _ _

/-- The launch's result read at an entry. -/
theorem result_apply (b : Fin 4) (i j : Fin 512) : Value.G3 m c (ix3 b i j)
    = gram (V m c main_v29) (m ((c.tc : Thread nD τ).loc main_arg2)) (m ((c.tc : Thread nD τ).loc main_arg3)) b i j := by
  have hrun : Value.run3Of (ix3 b i j) = 0 := by
    have := b.isLt; have := i.isLt; have := j.isLt
    show 1 * (b.val / 4 - 0) + 1 * (i.val / 512 - 0) + 1 * (j.val / 512 - 0) = 0
    omega
  have hloc : Value.loc3Of (ix3 b i j) = ix3 b i j := by
    funext a
    refine Fin.ext ?_
    match a with
    | ⟨0, _⟩ => exact Nat.mod_eq_of_lt b.isLt
    | ⟨1, _⟩ => exact Nat.mod_eq_of_lt i.isLt
    | ⟨2, _⟩ => exact Nat.mod_eq_of_lt j.isLt
  have hb : 24 * Value.run3Of (ix3 b i j) + 23 < cfg0.N := by
    rw [hrun]
    exact lt_of_lt_of_eq (by decide : 24 * 0 + 23 < 24) N_0.symm
  unfold Value.G3
  rw [dif_pos hb, hloc]
  refine (Pipeline.accAt_add_apply (Value.reset3 m c) (Value.step3 m c) (fun _ => 0) (addend m c) _ 23
    (fun h i => ?_) (fun n h acc i _ _ => step_apply m c n h acc i) 23 le_rfl hb (ix3 b i j)).trans ?_
  · refine (step_apply m c _ h _ i).trans (congrArg (· + addend m c _ i) ?_)
    pointwise [k0_pay1]
  · rw [hrun, zero_add]
    unfold gram
    rw [sum_blocks, Finset.sum_range]
    refine Finset.sum_congr rfl fun n _ => ?_
    have hn : 24 * 0 + n.val < 24 := by have := n.isLt; omega
    unfold addend
    rw [dif_pos hn]
    have he : (⟨24 * 0 + n.val, hn⟩ : Fin 24) = n := Fin.ext (by show 24 * 0 + n.val = n.val; omega)
    rw [he]
    rfl

end Cert.KernelIdeal.Gen
-- ==== Proof.Equation.lean ====
/-
  The equation: on memories that agree on the four arguments, the reference's result is the kernel's.
-/
module

public import proofs.«01_k».proof.Proof.KernelValue

@[expose] public section

noncomputable section

namespace Cert.Equation

open Idealize.ShloMosaic Idealize.ShloMosaic.TcCoe Idealize.SL.Sem

/-- Entry by entry, both results are the sum over the channels of the products of the projections, and the embeddings
    projected are the same, because the two selections agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.res_main_v25 m' c = Cert.KernelIdeal.Value.G3 m c := by
  have hE : Cert.KernelIdeal.Gen.V m c Cert.KernelIdeal.main_v29 = Cert.ReferenceIdeal.Value.emb m' c := by
    rw [Cert.KernelIdeal.Gen.embeddings_eq, Cert.Embed.staged_eq_whole]
    unfold Cert.ReferenceIdeal.Value.emb
    rw [h0, h1]
  refine funext fun (i : (⟨3, ![4, 512, 512]⟩ : Shape).Idx) => ?_
  rw [eq_ix3 i]
  refine (Cert.ReferenceIdeal.Value.res_apply m' c _ _ _).trans
    (Eq.trans ?_ (Cert.KernelIdeal.Gen.result_apply m c _ _ _).symm)
  rw [h2, h3, hE]

end Cert.Equation
-- ==== Proof.lean ====
/-
  The proof of the claim. The kernel and the reference leave at each entry of the output the same sum over the channels,
  of embeddings selected in two stages by the one and in one stage by the other; the two selections agree.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.Equation.result_eq m m' c (hagree c).1 (hagree c).2.1 (hagree c).2.2.1 (hagree c).2.2.2

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
